-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v7)) (v2 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_v8) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1x4096x8192 : Shape := ⟨3, ![1, 4096, 8192]⟩
abbrev S8192x32768 : Shape := ⟨2, ![8192, 32768]⟩
abbrev S64x256 : Shape := ⟨2, ![64, 256]⟩
abbrev S32768 : Shape := ⟨1, ![32768]⟩
abbrev S_ : Shape := ⟨0, ![]⟩

class Facts : Prop where
  bcast_S_S1x4096x8192 : S_.BroadcastsInDim S1x4096x8192 (![] : Fin 0 → Fin S1x4096x8192.rank)

variable [Facts]

def fn {F : FTy → Type} [FloatOps F] (main_arg0 : FVec F S1x4096x8192 .f32) (main_arg1 : FVec F S8192x32768 .fp8e4m3) (main_arg2 : FVec F S64x256 .f32) (main_arg3 : FVec F S32768 .f32) : IVec S1x4096x8192 1 :=
  let main_v0 : FVec F S1x4096x8192 .f32 := Host.absf main_arg0
  let main_cst : FVec F S_ .f32 := constant S_ .f32 0x7F7FFFFF#32
  let main_v1 : FVec F S1x4096x8192 .f32 := broadcastInDim S1x4096x8192 ![] bcast_S_S1x4096x8192 main_cst
  let main_v2 : IVec S1x4096x8192 1 := cmpf .ole main_v0 main_v1
  main_v2
-- ==== Kernel.lean ====
abbrev S1x4096x8192 : Shape := ⟨3, ![1, 4096, 8192]⟩
abbrev S8192x32768 : Shape := ⟨2, ![8192, 32768]⟩
abbrev S64x256 : Shape := ⟨2, ![64, 256]⟩
abbrev S32768 : Shape := ⟨1, ![32768]⟩
abbrev S4096x8192 : Shape := ⟨2, ![4096, 8192]⟩
abbrev S4096x64 : Shape := ⟨2, ![4096, 64]⟩
abbrev S256x8192 : Shape := ⟨2, ![256, 8192]⟩
abbrev S256x64 : Shape := ⟨2, ![256, 64]⟩
abbrev S256x128 : Shape := ⟨2, ![256, 128]⟩
abbrev S256 : Shape := ⟨1, ![256]⟩
abbrev S256x1 : Shape := ⟨2, ![256, 1]⟩
abbrev S256x256 : Shape := ⟨2, ![256, 256]⟩
abbrev S64x256x128 : Shape := ⟨3, ![64, 256, 128]⟩
abbrev S64x32768 : Shape := ⟨2, ![64, 32768]⟩
abbrev S1x32768 : Shape := ⟨2, ![1, 32768]⟩
abbrev S4096x32768 : Shape := ⟨2, ![4096, 32768]⟩
abbrev S8192x512 : Shape := ⟨2, ![8192, 512]⟩
abbrev S64x512 : Shape := ⟨2, ![64, 512]⟩
abbrev S1x512 : Shape := ⟨2, ![1, 512]⟩
abbrev S256x512 : Shape := ⟨2, ![256, 512]⟩
abbrev S128x512 : Shape := ⟨2, ![128, 512]⟩
abbrev S1x4096x32768 : Shape := ⟨3, ![1, 4096, 32768]⟩
abbrev S1x4096x64 : Shape := ⟨3, ![1, 4096, 64]⟩

abbrev nBuf : Space → Nat
  | .hbm => 14
  | .vmem => 18
  | .smem => 0
  | _ => 0

abbrev bufTy : (tb : Table) → Fin (tcTables nBuf tb) → BufTy
  | .hbm, ⟨0, _⟩ => ⟨S1x4096x8192, .f32⟩
  | .hbm, ⟨1, _⟩ => ⟨S8192x32768, .fp8e4m3⟩
  | .hbm, ⟨2, _⟩ => ⟨S64x256, .f32⟩
  | .hbm, ⟨3, _⟩ => ⟨S32768, .f32⟩
  | .hbm, ⟨4, _⟩ => ⟨S4096x8192, .f32⟩
  | .hbm, ⟨5, _⟩ => ⟨S4096x8192, .fp8e4m3⟩
  | .hbm, ⟨6, _⟩ => ⟨S4096x64, .f32⟩
  | .hbm, ⟨7, _⟩ => ⟨S64x256x128, .f32⟩
  | .hbm, ⟨8, _⟩ => ⟨S64x32768, .f32⟩
  | .hbm, ⟨9, _⟩ => ⟨S1x32768, .f32⟩
  | .hbm, ⟨10, _⟩ => ⟨S4096x32768, .f32⟩
  | .hbm, ⟨11, _⟩ => ⟨S1x4096x32768, .f32⟩
  | .hbm, ⟨12, _⟩ => ⟨S1x4096x8192, .fp8e4m3⟩
  | .hbm, ⟨13, _⟩ => ⟨S1x4096x64, .f32⟩
  | .local _ .vmem, ⟨0, _⟩ => ⟨S256x8192, .f32⟩
  | .local _ .vmem, ⟨1, _⟩ => ⟨S256x8192, .f32⟩
  | .local _ .vmem, ⟨2, _⟩ => ⟨S256x8192, .fp8e4m3⟩
  | .local _ .vmem, ⟨3, _⟩ => ⟨S256x8192, .fp8e4m3⟩
  | .local _ .vmem, ⟨4, _⟩ => ⟨S256x64, .f32⟩
  | .local _ .vmem, ⟨5, _⟩ => ⟨S256x64, .f32⟩
  | .local _ .vmem, ⟨6, _⟩ => ⟨S256x8192, .fp8e4m3⟩
  | .local _ .vmem, ⟨7, _⟩ => ⟨S256x8192, .fp8e4m3⟩
  | .local _ .vmem, ⟨8, _⟩ => ⟨S256x64, .f32⟩
  | .local _ .vmem, ⟨9, _⟩ => ⟨S256x64, .f32⟩
  | .local _ .vmem, ⟨10, _⟩ => ⟨S8192x512, .fp8e4m3⟩
  | .local _ .vmem, ⟨11, _⟩ => ⟨S8192x512, .fp8e4m3⟩
  | .local _ .vmem, ⟨12, _⟩ => ⟨S64x512, .f32⟩
  | .local _ .vmem, ⟨13, _⟩ => ⟨S64x512, .f32⟩
  | .local _ .vmem, ⟨14, _⟩ => ⟨S1x512, .f32⟩
  | .local _ .vmem, ⟨15, _⟩ => ⟨S1x512, .f32⟩
  | .local _ .vmem, ⟨16, _⟩ => ⟨S256x512, .f32⟩
  | .local _ .vmem, ⟨17, _⟩ => ⟨S256x512, .f32⟩
  | _, _ => ⟨S1x4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x8192 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![64, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S256x8192 .fp8e4m3 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S256x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S8192x512 .fp8e4m3 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S64x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S256x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]
-- ==== ReferenceIdeal.lean ====
abbrev S1x4096x8192 : Shape := ⟨3, ![1, 4096, 8192]⟩
abbrev S8192x32768 : Shape := ⟨2, ![8192, 32768]⟩
abbrev S64x256 : Shape := ⟨2, ![64, 256]⟩
abbrev S32768 : Shape := ⟨1, ![32768]⟩
abbrev S1x4096x32768 : Shape := ⟨3, ![1, 4096, 32768]⟩
abbrev S1x4096x64 : Shape := ⟨3, ![1, 4096, 64]⟩
abbrev S4096x64x128 : Shape := ⟨3, ![4096, 64, 128]⟩
abbrev S4096x64 : Shape := ⟨2, ![4096, 64]⟩
abbrev S4096x64x1 : Shape := ⟨3, ![4096, 64, 1]⟩
abbrev S4096x64x256 : Shape := ⟨3, ![4096, 64, 256]⟩
abbrev S64x128x32768 : Shape := ⟨3, ![64, 128, 32768]⟩
abbrev S64x4096x32768 : Shape := ⟨3, ![64, 4096, 32768]⟩
abbrev S64x4096x256x128 : Shape := ⟨4, ![64, 4096, 256, 128]⟩
abbrev S64x4096 : Shape := ⟨2, ![64, 4096]⟩
abbrev S64x4096x1x1 : Shape := ⟨4, ![64, 4096, 1, 1]⟩
abbrev S64x1x256x1 : Shape := ⟨4, ![64, 1, 256, 1]⟩
abbrev S4096x256x128 : Shape := ⟨3, ![4096, 256, 128]⟩
abbrev S4096x32768 : Shape := ⟨2, ![4096, 32768]⟩
abbrev S1x32768 : Shape := ⟨2, ![1, 32768]⟩

abbrev nBuf : Space → Nat
  | .hbm => 7
  | .vmem => 7
  | .smem => 0
  | _ => 0

abbrev bufTy : (tb : Table) → Fin (tcTables nBuf tb) → BufTy
  | .hbm, ⟨0, _⟩ => ⟨S1x4096x8192, .f32⟩
  | .hbm, ⟨1, _⟩ => ⟨S8192x32768, .fp8e4m3⟩
  | .hbm, ⟨2, _⟩ => ⟨S64x256, .f32⟩
  | .hbm, ⟨3, _⟩ => ⟨S32768, .f32⟩
  | .hbm, ⟨4, _⟩ => ⟨S1x4096x32768, .f32⟩
  | .hbm, ⟨5, _⟩ => ⟨S1x4096x8192, .fp8e4m3⟩
  | .hbm, ⟨6, _⟩ => ⟨S1x4096x64, .f32⟩
  | .local _ .vmem, ⟨0, _⟩ => ⟨S1x4096x8192, .f32⟩
  | .local _ .vmem, ⟨1, _⟩ => ⟨S8192x32768, .fp8e4m3⟩
  | .local _ .vmem, ⟨2, _⟩ => ⟨S64x256, .f32⟩
  | .local _ .vmem, ⟨3, _⟩ => ⟨S32768, .f32⟩
  | .local _ .vmem, ⟨4, _⟩ => ⟨S1x4096x32768, .f32⟩
  | .local _ .vmem, ⟨5, _⟩ => ⟨S1x4096x8192, .fp8e4m3⟩
  | .local _ .vmem, ⟨6, _⟩ => ⟨S1x4096x64, .f32⟩
  | _, _ => ⟨S1x4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1x4096x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x32768 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x4096x32768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x4096x8192 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x4096x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Run.lean ====
/-
  THE RUN OF THE WHOLE KERNEL, with its results: the launch of the generated frame over the same segments, read at the
  three result arrays too. They end at what the last stretch of host operations leaves, `W5`.
-/
module

public import proofs.«01_k».proof.Proof.Gen.KernelIdeal.Frame

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every execution of @main ends with the results at `W5` and the arguments as launched. -/
theorem run : θ_run defs (onTc (τ := τ) (main (F := F))) ⟨m, fun _ => 0, ρ⟩ (fun r => ∀ c : Dev nD,
      (r.2.mem ((c.tc : Thread nD τ).loc main_v6) = W5 m ρ c (Proc.devRef .tc main_v6)
      ∧ r.2.mem ((c.tc : Thread nD τ).loc main_v7) = W5 m ρ c (Proc.devRef .tc main_v7)
      ∧ r.2.mem ((c.tc : Thread nD τ).loc main_v8) = W5 m ρ c (Proc.devRef .tc main_v8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c =>
      ⟨⟨h c _ (mem_uc main_v6 (by decide)), h c _ (mem_uc main_v7 (by decide)), h c _ (mem_uc main_v8 (by decide))⟩,
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c)⟩)

end Cert.KernelIdeal.Hand

end
-- ==== Proof.Scale.lean ====
/-
  THE SCALE OF ONE GROUP, as mathematics on the extended reals.

  Both programs turn `t`, the largest magnitude of a group times the nearest float of 1/448, into a power of two. The
  kernel counts the bit patterns `k <<< 23` that are at most `t`, which is the exponent field of `t` plus one, and builds
  the scale and its inverse from that field by shifts. The reference takes the least of the powers `2 ^ (k - 126)` above
  `t`, and `1` where `t` is below the least normal number. `scale_eq` and `inv_eq` say that the two agree for
  `0 ≤ t < 2 ^ 120`.
-/
module

public import Idealize.ShloMosaic.Lib.Pointwise
public import Idealize.ShloMosaic.Lib.Pipeline.ValueKit

@[expose] public section

namespace Cert.Hand

open Idealize.ShloMosaic

/-- The kernel's exponent field of `t`: how many of the 256 patterns are at most `t`, minus one. -/
noncomputable def fieldOf (t : EReal) : BitVec 32 :=
  IntOp.subi (Finset.fold IntOp.addi (0#32) (fun x : Fin 256 =>
    if t < Ideal.ofBits .f32 (IntOp.shli .vector (BitVec.ofNat 32 ↑x) 23#32) then 0#32 else 1#32) Finset.univ) 1#32

/-- The kernel's exponent of `t`: the exponent field made that of a fraction in `[1/2, 1)`, zero at field zero. -/
noncomputable def expOf (t : EReal) : BitVec 32 :=
  Scalar.select (IntOp.cmpi .eq (fieldOf t) 0#32) 0#32 (IntOp.subi (fieldOf t) 126#32)

/-- The kernel's scale. -/
noncomputable def sclOf (t : EReal) : EReal :=
  Ideal.ofBits .f32 (IntOp.shli .vector (IntOp.addi (expOf t) 127#32) 23#32)

/-- The kernel's inverse scale. -/
noncomputable def invOf (t : EReal) : EReal :=
  Ideal.ofBits .f32 (IntOp.shli .vector (IntOp.addi (IntOp.subi 0#32 (expOf t)) 127#32) 23#32)

/-- The reference's power `2 ^ (k - 126)`. -/
noncomputable def powOf (x : Fin 256) : EReal :=
  Ideal.exp2 (((IntOp.subi (BitVec.ofNat 32 ↑x) 126#32).toInt : ℝ) : EReal)

/-- The reference's scale. -/
noncomputable def refScl (t : EReal) : EReal :=
  if t < Ideal.ofBits .f32 8388608#32 then 1
  else Finset.fold min (Ideal.ofBits .f32 2139095040#32) (fun x : Fin 256 =>
    if t < powOf x then powOf x else Ideal.ofBits .f32 2139095040#32) Finset.univ

/-! ### What the patterns denote -/

theorem shli_bits : ∀ k : Fin 256,
    ((IntOp.shli .vector (BitVec.ofNat 32 k.val) 23#32).extractLsb' 31 1 == 1#1) = false ∧
    ((IntOp.shli .vector (BitVec.ofNat 32 k.val) 23#32).extractLsb' 23 8).toNat = k.val ∧
    ((IntOp.shli .vector (BitVec.ofNat 32 k.val) 23#32).extractLsb' 0 23).toNat = 0 := by
  decide +kernel

theorem ofBits_f32 (b : BitVec 32) : Ideal.ofBits .f32 b = Ideal.ieee 8 23 b := by
  simp only [Ideal.ofBits]

/-- A nonnegative pattern with zero mantissa and exponent field from 1 to 254. -/
theorem ofBits_of_fields (b : BitVec 32) (k : Nat) (hs : (b.extractLsb' 31 1 == 1#1) = false)
    (he : (b.extractLsb' 23 8).toNat = k) (hf : (b.extractLsb' 0 23).toNat = 0) (h1 : k ≠ 0) (h2 : k ≠ 255) :
    Ideal.ofBits .f32 b = (((2 : ℝ) ^ ((k : ℤ) - 127) : ℝ) : EReal) := by
  rw [ofBits_f32]
  unfold Ideal.ieee
  rw [show (8 + 23 : Nat) = 31 from rfl, hs, he, hf]
  have h2' : k ≠ 2 ^ 8 - 1 := h2
  rw [if_neg h2', if_neg h1]
  congr 1
  norm_num
  rw [show (8388608 : ℝ) = 2 ^ (23 : ℤ) by norm_num, ← zpow_add₀ (by norm_num)]
  congr 1
  ring

/-- A pattern with exponent field from 1 to 254 is a power of two. -/
theorem ofBits_shli (k : Nat) (h1 : 1 ≤ k) (h2 : k ≤ 254) :
    Ideal.ofBits .f32 (IntOp.shli .vector (BitVec.ofNat 32 k) 23#32) = (((2 : ℝ) ^ ((k : ℤ) - 127) : ℝ) : EReal) :=
  have h := shli_bits ⟨k, by omega⟩
  ofBits_of_fields _ k h.1 h.2.1 h.2.2 (by omega) (by omega)

theorem ofBits_shli_zero : Ideal.ofBits .f32 (IntOp.shli .vector (BitVec.ofNat 32 0) 23#32) = 0 := by
  obtain ⟨hs, he, hf⟩ := shli_bits ⟨0, by omega⟩
  rw [ofBits_f32]
  unfold Ideal.ieee
  simp only [] at hs he hf
  rw [show (8 + 23 : Nat) = 31 from rfl, hs, he, hf]
  norm_num

theorem ofBits_shli_top : Ideal.ofBits .f32 (IntOp.shli .vector (BitVec.ofNat 32 255) 23#32) = ⊤ := by
  obtain ⟨hs, he, hf⟩ := shli_bits ⟨255, by omega⟩
  rw [ofBits_f32]
  unfold Ideal.ieee
  simp only [] at hs he hf
  rw [show (8 + 23 : Nat) = 31 from rfl, hs, he, hf]
  norm_num

theorem ofBits_inf : Ideal.ofBits .f32 2139095040#32 = ⊤ := by
  rw [← ofBits_shli_top]; congr 1

theorem ofBits_negInf : Ideal.ofBits .f32 4286578688#32 = ⊥ := by
  rw [ofBits_f32]
  unfold Ideal.ieee
  rw [show ((4286578688#32 : BitVec 32).extractLsb' (8 + 23) 1 == 1#1) = true by decide,
    show ((4286578688#32 : BitVec 32).extractLsb' 23 8).toNat = 255 by decide,
    show ((4286578688#32 : BitVec 32).extractLsb' 0 23).toNat = 0 by decide]
  norm_num

theorem ofBits_minNormal : Ideal.ofBits .f32 8388608#32 = (((2 : ℝ) ^ (-126 : ℤ) : ℝ) : EReal) := by
  have h := ofBits_shli 1 (by omega) (by omega)
  rw [show IntOp.shli .vector (BitVec.ofNat 32 1) 23#32 = 8388608#32 by decide] at h
  rw [h]; norm_num

/-! ### The exponent field -/

/-- The field `n` of `t` in real terms: `t` lies below the next power, and at or above its own unless `n` is zero. -/
def HasField (t : EReal) (n : Nat) : Prop :=
  n ≤ 246 ∧ 0 ≤ t ∧ t < (((2 : ℝ) ^ ((n : ℤ) - 126) : ℝ) : EReal) ∧
    (1 ≤ n → (((2 : ℝ) ^ ((n : ℤ) - 127) : ℝ) : EReal) ≤ t)

theorem exists_field (t : EReal) (h0 : 0 ≤ t) (h1 : t < (((2 : ℝ) ^ (120 : ℤ) : ℝ) : EReal)) : ∃ n, HasField t n := by
  induction t with
  | bot => exact absurd h0 (by simp)
  | top => exact absurd h1 (by simp)
  | coe r =>
    have h0' : (0 : ℝ) ≤ r := by exact_mod_cast h0
    have h1' : r < (2 : ℝ) ^ (120 : ℤ) := by exact_mod_cast h1
    by_cases hs : r < (2 : ℝ) ^ (-126 : ℤ)
    · exact ⟨0, by omega, h0, by
        rw [show ((0 : ℕ) : ℤ) - 126 = -126 by norm_num]; exact EReal.coe_lt_coe_iff.mpr hs, by omega⟩
    · have hpos : 0 < r := lt_of_lt_of_le (by positivity) (not_lt.mp hs)
      obtain ⟨n, hn1, hn2⟩ := exists_mem_Ico_zpow hpos (by norm_num : (1 : ℝ) < 2)
      have hlo : -126 ≤ n := by
        have : (2 : ℝ) ^ (-126 : ℤ) < (2 : ℝ) ^ (n + 1) := lt_of_le_of_lt (not_lt.mp hs) hn2
        have := (zpow_lt_zpow_iff_right₀ (by norm_num : (1 : ℝ) < 2)).mp this
        omega
      have hhi : n < 120 := (zpow_lt_zpow_iff_right₀ (by norm_num : (1 : ℝ) < 2)).mp (lt_of_le_of_lt hn1 h1')
      refine ⟨(n + 127).toNat, by omega, h0, ?_, fun _ => ?_⟩
      · rw [show (((n + 127).toNat : ℕ) : ℤ) - 126 = n + 1 by omega]; exact_mod_cast hn2
      · rw [show (((n + 127).toNat : ℕ) : ℤ) - 127 = n by omega]; exact_mod_cast hn1

theorem zpow_le_coe {a b : ℤ} (h : a ≤ b) : (((2 : ℝ) ^ a : ℝ) : EReal) ≤ (((2 : ℝ) ^ b : ℝ) : EReal) := by
  exact_mod_cast zpow_le_zpow_right₀ (by norm_num : (1 : ℝ) ≤ 2) h

/-- The patterns at most `t` are those whose exponent field is at most that of `t`. -/
theorem lt_pattern_iff {t : EReal} {n : Nat} (h : HasField t n) (x : Fin 256) :
    t < Ideal.ofBits .f32 (IntOp.shli .vector (BitVec.ofNat 32 ↑x) 23#32) ↔ ¬ x.val ≤ n := by
  obtain ⟨hn, h0, hu, hl⟩ := h
  rcases Nat.lt_or_ge 254 x.val with hx | hx
  · rw [show x.val = 255 by omega, ofBits_shli_top]
    exact ⟨fun _ => by omega, fun _ => lt_of_lt_of_le hu le_top⟩
  rcases Nat.eq_zero_or_pos x.val with hz | hp
  · rw [hz, ofBits_shli_zero]
    exact ⟨fun hh => absurd h0 (not_le.mpr hh), fun hh => absurd (Nat.zero_le n) hh⟩
  · rw [ofBits_shli x.val hp hx]
    constructor
    · intro hh hle
      have := lt_of_lt_of_le hh (zpow_le_coe (show ((x.val : ℤ) - 127) ≤ (n : ℤ) - 127 by omega))
      exact absurd (hl (by omega)) (not_le.mpr this)
    · intro hh
      exact lt_of_lt_of_le hu (zpow_le_coe (by omega))

theorem fold_addi_count {α : Type} [DecidableEq α] (s : Finset α) (p : α → Prop) [DecidablePred p] :
    Finset.fold IntOp.addi (0#32) (fun x => if p x then 1#32 else 0#32) s = BitVec.ofNat 32 (s.filter p).card := by
  induction s using Finset.induction_on with
  | empty => rfl
  | insert a s ha ih =>
    rw [Finset.fold_insert ha, ih, Finset.filter_insert]
    split_ifs with h
    · rw [Finset.card_insert_of_notMem (by simp [ha])]
      unfold IntOp.addi
      rw [BitVec.ofNat_add, BitVec.add_comm]
    · unfold IntOp.addi
      exact BitVec.zero_add _

theorem fieldOf_eq {t : EReal} {n : Nat} (h : HasField t n) : fieldOf t = BitVec.ofNat 32 n := by
  have hn := h.1
  unfold fieldOf
  rw [show (fun x : Fin 256 => if t < Ideal.ofBits .f32 (IntOp.shli .vector (BitVec.ofNat 32 ↑x) 23#32) then 0#32 else 1#32)
      = fun x : Fin 256 => if x ≤ (⟨n, by omega⟩ : Fin 256) then 1#32 else 0#32 from
    funext fun x => by
      by_cases hx : x.val ≤ n
      · rw [if_neg (fun hh => (lt_pattern_iff h x).mp hh hx), if_pos (by exact hx)]
      · rw [if_pos ((lt_pattern_iff h x).mpr hx), if_neg (by exact hx)]]
  rw [fold_addi_count]
  rw [show (Finset.univ.filter fun x : Fin 256 => x ≤ (⟨n, by omega⟩ : Fin 256)) = Finset.Iic (⟨n, by omega⟩ : Fin 256) from by
    ext x; simp]
  rw [Fin.card_Iic]
  unfold IntOp.subi
  rw [BitVec.ofNat_add]
  exact BitVec.add_sub_cancel _ _

theorem scl_word : ∀ n : Fin 247,
    IntOp.addi (Scalar.select (IntOp.cmpi .eq (BitVec.ofNat 32 n.val) 0#32) 0#32 (IntOp.subi (BitVec.ofNat 32 n.val) 126#32)) 127#32
      = BitVec.ofNat 32 (if n.val = 0 then 127 else n.val + 1) := by
  decide +kernel

theorem inv_word : ∀ n : Fin 247,
    IntOp.addi (IntOp.subi 0#32
        (Scalar.select (IntOp.cmpi .eq (BitVec.ofNat 32 n.val) 0#32) 0#32 (IntOp.subi (BitVec.ofNat 32 n.val) 126#32))) 127#32
      = BitVec.ofNat 32 (if n.val = 0 then 127 else 253 - n.val) := by
  decide +kernel

/-- The exponent of the scale for exponent field `n`. -/
def scaleExp (n : Nat) : ℤ := if n = 0 then 0 else (n : ℤ) - 126

theorem sclOf_eq {t : EReal} {n : Nat} (h : HasField t n) : sclOf t = (((2 : ℝ) ^ scaleExp n : ℝ) : EReal) := by
  have hn := h.1
  unfold sclOf expOf
  rw [fieldOf_eq h, scl_word ⟨n, by omega⟩]
  unfold scaleExp
  simp only []
  split_ifs with hz
  · rw [ofBits_shli 127 (by omega) (by omega)]; norm_num
  · rw [ofBits_shli (n + 1) (by omega) (by omega)]
    rw [show (((n + 1 : ℕ) : ℤ) - 127) = (n : ℤ) - 126 by push_cast; ring]

theorem invOf_eq {t : EReal} {n : Nat} (h : HasField t n) : invOf t = (((2 : ℝ) ^ (-scaleExp n) : ℝ) : EReal) := by
  have hn := h.1
  unfold invOf expOf
  rw [fieldOf_eq h, inv_word ⟨n, by omega⟩]
  unfold scaleExp
  simp only []
  split_ifs with hz
  · rw [ofBits_shli 127 (by omega) (by omega)]; norm_num
  · rw [ofBits_shli (253 - n) (by omega) (by omega)]
    rw [show (((253 - n : ℕ) : ℤ) - 127) = -((n : ℤ) - 126) by omega]

/-! ### The reference's scale -/

theorem pow_word : ∀ x : Fin 256, (IntOp.subi (BitVec.ofNat 32 x.val) 126#32).toInt = (x.val : ℤ) - 126 := by
  decide +kernel

theorem powOf_eq (x : Fin 256) : powOf x = (((2 : ℝ) ^ ((x.val : ℤ) - 126) : ℝ) : EReal) := by
  unfold powOf
  rw [pow_word x]
  show ((Real.rpow 2 _ : ℝ) : EReal) = _
  congr 1
  exact Real.rpow_intCast 2 _

theorem refScl_eq {t : EReal} {n : Nat} (h : HasField t n) : refScl t = (((2 : ℝ) ^ scaleExp n : ℝ) : EReal) := by
  obtain ⟨hn, h0, hu, hl⟩ := h
  unfold refScl scaleExp
  rw [ofBits_minNormal, ofBits_inf]
  by_cases hz : n = 0
  · subst hz
    rw [if_pos (by simpa using hu), if_pos rfl]; norm_num
  · have hl := hl (by omega)
    rw [if_neg (not_lt.mpr (le_trans (zpow_le_coe (show (-126 : ℤ) ≤ (n : ℤ) - 127 by omega)) hl)), if_neg hz]
    apply le_antisymm
    · refine (Finset.fold_min_le _).mpr (Or.inr ⟨(⟨n, by omega⟩ : Fin 256), Finset.mem_univ _, ?_⟩)
      rw [powOf_eq, if_pos (by exact hu)]
    · refine (Finset.le_fold_min _).mpr ⟨le_top, fun x _ => ?_⟩
      rw [powOf_eq]
      split_ifs with hx
      · refine zpow_le_coe ?_
        have h2 := lt_of_le_of_lt hl hx
        have h3 : (2 : ℝ) ^ ((n : ℤ) - 127) < (2 : ℝ) ^ ((x.val : ℤ) - 126) := by exact_mod_cast h2
        have := (zpow_lt_zpow_iff_right₀ (by norm_num : (1 : ℝ) < 2)).mp h3
        omega
      · exact le_top

/-! ### The two agree -/

theorem scale_eq (t : EReal) (h0 : 0 ≤ t) (h1 : t < (((2 : ℝ) ^ (120 : ℤ) : ℝ) : EReal)) : sclOf t = refScl t := by
  obtain ⟨n, hn⟩ := exists_field t h0 h1
  rw [sclOf_eq hn, refScl_eq hn]

theorem inv_eq (t : EReal) (h0 : 0 ≤ t) (h1 : t < (((2 : ℝ) ^ (120 : ℤ) : ℝ) : EReal)) :
    invOf t = Ideal.div 1 (refScl t) := by
  obtain ⟨n, hn⟩ := exists_field t h0 h1
  rw [invOf_eq hn, refScl_eq hn, Ideal.div_coe (by positivity), one_mul, zpow_neg, one_div]

/-! ### The largest magnitude of a group is in range -/

/-- `t` of a group of 128 values: their largest magnitude times the float nearest 1/448. -/
noncomputable def tOf (f : Fin 128 → EReal) : EReal :=
  Finset.fold max (Ideal.ofBits .f32 4286578688#32) (fun x => max (f x) (-(f x))) Finset.univ * Ideal.ofBits .f32 991054117#32

theorem ofBits_recip : Ideal.ofBits .f32 991054117#32 = (((2 ^ 23 + 1198373 : ℝ) * (2 : ℝ) ^ (-32 : ℤ) : ℝ) : EReal) := by
  rw [ofBits_f32]
  unfold Ideal.ieee
  rw [show ((991054117#32 : BitVec 32).extractLsb' (8 + 23) 1 == 1#1) = false by decide,
    show ((991054117#32 : BitVec 32).extractLsb' 23 8).toNat = 118 by decide,
    show ((991054117#32 : BitVec 32).extractLsb' 0 23).toNat = 1198373 by decide]
  norm_num

theorem ofBits_max : Ideal.ofBits .f32 2139095039#32 = (((2 ^ 24 - 1 : ℝ) * (2 : ℝ) ^ (104 : ℤ) : ℝ) : EReal) := by
  rw [ofBits_f32]
  unfold Ideal.ieee
  rw [show ((2139095039#32 : BitVec 32).extractLsb' (8 + 23) 1 == 1#1) = false by decide,
    show ((2139095039#32 : BitVec 32).extractLsb' 23 8).toNat = 254 by decide,
    show ((2139095039#32 : BitVec 32).extractLsb' 0 23).toNat = 8388607 by decide]
  norm_num

theorem abs_nonneg' (a : EReal) : 0 ≤ max a (-a) := by
  rcases le_total 0 a with h | h
  · exact le_max_of_le_left h
  · exact le_max_of_le_right (by simpa using h)

theorem tOf_range (f : Fin 128 → EReal) (hf : ∀ x, max (f x) (-(f x)) ≤ Ideal.ofBits .f32 2139095039#32) :
    0 ≤ tOf f ∧ tOf f < (((2 : ℝ) ^ (120 : ℤ) : ℝ) : EReal) := by
  unfold tOf
  rw [ofBits_negInf, ofBits_recip]
  rw [ofBits_max] at hf
  set m := Finset.fold max ⊥ (fun x => max (f x) (-(f x))) Finset.univ with hm
  have h0 : 0 ≤ m := (Finset.le_fold_max _).mpr (Or.inr ⟨0, Finset.mem_univ _, abs_nonneg' _⟩)
  have h1 : m ≤ (((2 ^ 24 - 1 : ℝ) * (2 : ℝ) ^ (104 : ℤ) : ℝ) : EReal) :=
    (Finset.fold_max_le _).mpr ⟨bot_le, fun x _ => hf x⟩
  clear_value m
  induction m with
  | bot => exact absurd h0 (by simp)
  | top => exact absurd h1 (not_le.mpr (EReal.coe_lt_top _))
  | coe r =>
    have h0' : (0 : ℝ) ≤ r := by exact_mod_cast h0
    have h1' : r ≤ (2 ^ 24 - 1 : ℝ) * (2 : ℝ) ^ (104 : ℤ) := by exact_mod_cast h1
    constructor
    · rw [← EReal.coe_mul]
      have : (0 : ℝ) ≤ r * ((2 ^ 23 + 1198373 : ℝ) * (2 : ℝ) ^ (-32 : ℤ)) := by positivity
      exact_mod_cast this
    · rw [← EReal.coe_mul]
      have : r * ((2 ^ 23 + 1198373 : ℝ) * (2 : ℝ) ^ (-32 : ℤ)) < (2 : ℝ) ^ (120 : ℤ) := by
        refine lt_of_le_of_lt (mul_le_mul_of_nonneg_right h1' (by positivity)) ?_
        norm_num
      exact_mod_cast this

end Cert.Hand
-- ==== Proof.RefRead.lean ====
/-
  WHAT THE REFERENCE'S STEPS HOLD AT AN INDEX, over the extended reals: the scales, the codes, and the output.

  Each array of the reference is read in small steps, one or two operations at a time.
-/
module

public import proofs.«01_k».proof.Proof.Gen.ReferenceIdeal.Frame
public import proofs.«01_k».proof.Proof.Scale

@[expose] public section

set_option maxRecDepth 16384

namespace Cert.ReferenceIdeal.Hand

open Idealize.ShloMosaic Cert.ReferenceIdeal.Gen Cert.ReferenceIdeal Cert.Hand

/-! ### The scales -/

theorem grouped_apply (v : Vec Ideal S1x4096x8192 .f32) (r : Fin 4096) (g : Fin 64) (j : Fin 128) :
    k0_pay4 v (ix3 r g j) = v (ix3 0 r ⟨g.val * 128 + j.val, by omega⟩) := by
  pointwise [k0_pay4]

/-- The largest magnitude of each group. -/
noncomputable def amaxVec (w : FVec Ideal S4096x64x128 .f32) : FVec Ideal S4096x64 .f32 :=
  multiReduction .maximumf [2] S4096x64 (absf w) 0xFF800000#32 reduces_S4096x64x128_S4096x64 (.inl rfl) rfl

/-- The largest magnitudes times the float of 1/448. -/
noncomputable def tVec (a : FVec Ideal S4096x64 .f32) : FVec Ideal S4096x64x1 .f32 :=
  mulf (shapeCast S4096x64x1 a shapeCasts_S4096x64_S4096x64x1) (broadcast S4096x64x1 (Scalar.ofBits .f32 0x3B124925#32))

/-- The powers of two. -/
noncomputable def powVec : FVec Ideal S4096x64x256 .f32 :=
  exp2 (sitofp .f32 (subi (iota .tc S4096x64x256 32 [2] iota_S4096x64x256_d2_w32) (broadcast S4096x64x256 126#32)))

/-- The powers `p` above `t`, infinity in place of the others. -/
noncomputable def aboveVec (p : FVec Ideal S4096x64x256 .f32) (t : FVec Ideal S4096x64x1 .f32) : FVec Ideal S4096x64x256 .f32 :=
  select (cmpf .ogt p (broadcastTo S4096x64x256 t broadcasts_S4096x64x1_S4096x64x256)) p
    (broadcast S4096x64x256 (Scalar.ofBits .f32 0x7F800000#32))

/-- The least entry of each row of powers. -/
noncomputable def leastVec (p : FVec Ideal S4096x64x256 .f32) : FVec Ideal S4096x64 .f32 :=
  multiReduction .minimumf [2] S4096x64 p 0x7F800000#32 reduces_S4096x64x256_S4096x64 (.inl rfl) rfl

/-- One where `t` is below the least normal number, else `a`. -/
noncomputable def pickVec (t : FVec Ideal S4096x64x1 .f32) (a : FVec Ideal S4096x64 .f32) : FVec Ideal S4096x64x1 .f32 :=
  select (cmpf .olt t (broadcast S4096x64x1 (Scalar.ofBits .f32 0x00800000#32)))
    (broadcast S4096x64x1 (Scalar.ofBits .f32 0x3F800000#32)) (shapeCast S4096x64x1 a shapeCasts_S4096x64_S4096x64x1)

theorem scales_eq (v : Vec Ideal S1x4096x8192 .f32) :
    k0_pay5 v = pickVec (tVec (amaxVec (k0_pay4 v))) (leastVec (aboveVec powVec (tVec (amaxVec (k0_pay4 v))))) := rfl

theorem amaxVec_apply (w : FVec Ideal S4096x64x128 .f32) (r : Fin 4096) (g : Fin 64) : amaxVec w (ix2 r g) =
    Finset.fold max (Ideal.ofBits .f32 4286578688#32) (fun x => max (w (ix3 r g x)) (-(w (ix3 r g x)))) Finset.univ := by
  unfold amaxVec
  pointwise
  rfl

theorem tVec_apply (a : FVec Ideal S4096x64 .f32) (r : Fin 4096) (g : Fin 64) :
    tVec a (ix3 r g 0) = a (ix2 r g) * Ideal.ofBits .f32 991054117#32 := by
  unfold tVec
  pointwise

theorem powVec_apply (r : Fin 4096) (g : Fin 64) (x : Fin 256) : powVec (ix3 r g x) = powOf x := by
  unfold powVec
  pointwise
  rfl

theorem aboveVec_apply (p : FVec Ideal S4096x64x256 .f32) (t : FVec Ideal S4096x64x1 .f32) (r : Fin 4096) (g : Fin 64) (x : Fin 256) :
    aboveVec p t (ix3 r g x) =
      if t (ix3 r g 0) < p (ix3 r g x) then p (ix3 r g x) else Ideal.ofBits .f32 2139095040#32 := by
  unfold aboveVec
  pointwise

theorem leastVec_apply (p : FVec Ideal S4096x64x256 .f32) (r : Fin 4096) (g : Fin 64) : leastVec p (ix2 r g) =
    Finset.fold min (Ideal.ofBits .f32 2139095040#32) (fun x => p (ix3 r g x)) Finset.univ := by
  unfold leastVec
  pointwise

theorem pickVec_apply (t : FVec Ideal S4096x64x1 .f32) (a : FVec Ideal S4096x64 .f32) (r : Fin 4096) (g : Fin 64) :
    pickVec t a (ix3 r g 0) = if t (ix3 r g 0) < Ideal.ofBits .f32 8388608#32 then 1 else a (ix2 r g) := by
  unfold pickVec
  pointwise

/-- The reference's scale of row `r`, group `g`. -/
theorem scale_apply (v : Vec Ideal S1x4096x8192 .f32) (r : Fin 4096) (g : Fin 64) :
    k0_pay5 v (ix3 r g 0) = refScl (tOf fun l => v (ix3 0 r ⟨g.val * 128 + l.val, by omega⟩)) := by
  have hT : tVec (amaxVec (k0_pay4 v)) (ix3 r g 0) = tOf fun l => v (ix3 0 r ⟨g.val * 128 + l.val, by omega⟩) := by
    rw [tVec_apply, amaxVec_apply]
    simp only [grouped_apply]
    unfold tOf
    with_reducible rfl
  rw [scales_eq, pickVec_apply, leastVec_apply]
  simp only [aboveVec_apply, powVec_apply, hT]
  unfold refScl
  with_reducible rfl

/-! ### The codes -/

/-- The grouped values `x` times `1 / s`, clipped to the fp8 range. -/
noncomputable def codeVec (x : FVec Ideal S4096x64x128 .f32) (s : FVec Ideal S4096x64x1 .f32) : FVec Ideal S4096x64x128 .fp8e4m3 :=
  truncf .fp8e4m3 (minimumf (broadcast S4096x64x128 (Scalar.ofBits .f32 0x43E00000#32))
    (maximumf (broadcast S4096x64x128 (Scalar.ofBits .f32 0xC3E00000#32))
      (mulf x (broadcastTo S4096x64x128 (divf (broadcast S4096x64x1 (Scalar.ofBits .f32 0x3F800000#32)) s)
        broadcasts_S4096x64x1_S4096x64x128)))) bitsLt_fp8e4m3_f32

theorem codes_eq (v : Vec Ideal S1x4096x8192 .f32) : k0_pay6 v = codeVec (k0_pay4 v) (k0_pay5 v) := rfl

/-- One code of the reference: the value times one over the scale, clipped to the fp8 range. -/
noncomputable def refCode (s a : EReal) : EReal :=
  min (Ideal.ofBits .f32 1138753536#32) (max (Ideal.ofBits .f32 3286237184#32) (a * Ideal.div 1 s))

theorem codeVec_apply (x : FVec Ideal S4096x64x128 .f32) (s : FVec Ideal S4096x64x1 .f32) (r : Fin 4096) (g : Fin 64) (k : Fin 128) :
    codeVec x s (ix3 r g k) = refCode (s (ix3 r g 0)) (x (ix3 r g k)) := by
  unfold codeVec refCode
  pointwise

theorem code_apply (v : Vec Ideal S1x4096x8192 .f32) (r : Fin 4096) (g : Fin 64) (k : Fin 128) :
    k0_pay6 v (ix3 r g k) = refCode (refScl (tOf fun l => v (ix3 0 r ⟨g.val * 128 + l.val, by omega⟩)))
      (v (ix3 0 r ⟨g.val * 128 + k.val, by omega⟩)) := by
  rw [codes_eq, codeVec_apply, scale_apply, grouped_apply]

/-! ### The three results -/

theorem ungroup_apply (v : FVec Ideal S4096x64x128 .fp8e4m3) (r : Fin 4096) (c : Fin 8192) :
    k0_pay2 v (ix3 0 r c) = v (ix3 r ⟨c.val / 128, by omega⟩ ⟨c.val % 128, by omega⟩) := by
  pointwise [k0_pay2]

theorem scalesOut_apply (v : FVec Ideal S4096x64x1 .f32) (r : Fin 4096) (g : Fin 64) :
    k0_pay3 v (ix3 0 r g) = v (ix3 r g 0) := by
  pointwise [k0_pay3]

theorem out_apply (v : Vec Ideal S1x4096x8192 .f32) (w : Vec Ideal S8192x32768 .fp8e4m3) (s : Vec Ideal S64x256 .f32)
    (b : Vec Ideal S32768 .f32) (r : Fin 4096) (l : Fin 32768) :
    k0_pay1 (k0_pay7 v w) (k0_pay8 s) b (ix3 0 r l) =
      (∑ g : Fin 64, (∑ k : Fin 128, k0_pay6 v (ix3 r g k) * w (ix2 ⟨g.val * 128 + k.val, by omega⟩ l))
        * k0_pay5 v (ix3 r g 0) * s (ix2 g ⟨l.val / 128, by omega⟩)) + b (ix1 l) := by
  pointwise [k0_pay1, k0_pay7, k0_pay8]

end Cert.ReferenceIdeal.Hand
-- ==== Proof.RefRun.lean ====
/-
  THE RUN OF THE REFERENCE, with its results: it is one step on whole arrays, so each result array is the payload of the
  argument arrays.
-/
module

public import proofs.«01_k».proof.Proof.RefRead
public import Idealize.ShloMosaic.Lib.Pipeline.ValueKit

@[expose] public section

set_option maxRecDepth 16384

noncomputable section

namespace Cert.ReferenceIdeal.Hand

open Idealize.ShloMosaic Idealize.ShloMosaic.TcCoe Idealize.SL.Sem
open Cert.ReferenceIdeal Cert.ReferenceIdeal.Gen
open Idealize.ShloMosaic.Pipeline (Dat)

variable (m : (ℓ : Loc nD τ sig) → Buf (Elt Ideal) ℓ) (ρ : Dev nD → PrngReg)

/-- The grid has one point. -/
def pt : Fin cfg0.N := ⟨0, Nat.one_pos⟩

theorem idx0 : win0_0.index pt = fun _ => 0 := by decide +kernel
theorem idx1 : win0_1.index pt = fun _ => 0 := by decide +kernel
theorem idx2 : win0_2.index pt = fun _ => 0 := by decide +kernel
theorem idx3 : win0_3.index pt = fun _ => 0 := by decide +kernel

theorem arg0_blk (c : Dev nD) : iblk m c 0 pt = m ((c : Thread nD τ).loc main_arg0) := by
  blk_ext! [iblk, V, idx0]
theorem arg1_blk (c : Dev nD) : iblk m c 1 pt = m ((c : Thread nD τ).loc main_arg1) := by
  blk_ext! [iblk, V, idx1]
theorem arg2_blk (c : Dev nD) : iblk m c 2 pt = m ((c : Thread nD τ).loc main_arg2) := by
  blk_ext! [iblk, V, idx2]
theorem arg3_blk (c : Dev nD) : iblk m c 3 pt = m ((c : Thread nD τ).loc main_arg3) := by
  blk_ext! [iblk, V, idx3]

theorem out_arr (c : Dev nD) : (dats m 0 c).arrAt 4 cfg0.N =
    k0_pay1 (F := Ideal) (k0_pay7 (m ((c : Thread nD τ).loc main_arg0)) (m ((c : Thread nD τ).loc main_arg1)))
      (k0_pay8 (m ((c : Thread nD τ).loc main_arg2))) (m ((c : Thread nD τ).loc main_arg3)) := by
  refine (dats m 0 c).arrAt_eq_of_after_last 4 pt (by decide +kernel) _ fun j => ?_
  blk_simp
  rw [after0_4]
  frame_out
  rw [arg0_blk, arg1_blk, arg2_blk, arg3_blk]
theorem codes_arr (c : Dev nD) : (dats m 0 c).arrAt 5 cfg0.N =
    k0_pay2 (F := Ideal) (k0_pay6 (m ((c : Thread nD τ).loc main_arg0))) := by
  refine (dats m 0 c).arrAt_eq_of_after_last 5 pt (by decide +kernel) _ fun j => ?_
  blk_simp
  rw [after0_5]
  frame_out
  rw [arg0_blk]
theorem scales_arr (c : Dev nD) : (dats m 0 c).arrAt 6 cfg0.N =
    k0_pay3 (F := Ideal) (k0_pay5 (m ((c : Thread nD τ).loc main_arg0))) := by
  refine (dats m 0 c).arrAt_eq_of_after_last 6 pt (by decide +kernel) _ fun j => ?_
  blk_simp
  rw [after0_6]
  frame_out
  rw [arg0_blk]

/-- The run: the three results, and the arguments unchanged. -/
theorem run : θ_run defs (onTc (τ := τ) (main (F := Ideal))) ⟨m, fun _ => 0, ρ⟩ (fun r => ∀ c : Dev nD,
      (r.2.mem ((c.tc : Thread nD τ).loc main_v0_0) =
        k0_pay1 (F := Ideal) (k0_pay7 (m ((c : Thread nD τ).loc main_arg0)) (m ((c : Thread nD τ).loc main_arg1)))
          (k0_pay8 (m ((c : Thread nD τ).loc main_arg2))) (m ((c : Thread nD τ).loc main_arg3))
      ∧ r.2.mem ((c.tc : Thread nD τ).loc main_v0_1) = k0_pay2 (F := Ideal) (k0_pay6 (m ((c : Thread nD τ).loc main_arg0)))
      ∧ r.2.mem ((c.tc : Thread nD τ).loc main_v0_2) = k0_pay3 (F := Ideal) (k0_pay5 (m ((c : Thread nD τ).loc main_arg0))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨⟨((h c).1 4).trans (out_arr m c), ((h c).1 5).trans (codes_arr m c), ((h c).1 6).trans (scales_arr m c)⟩,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩) (run_main m ρ)

end Cert.ReferenceIdeal.Hand
-- ==== Proof.QuantBlock.lean ====
/-
  WHAT ONE BLOCK OF THE QUANTISER HOLDS. The 64 groups of a block are unrolled in the program, every group with the same
  steps. Here the steps of one group are stated once, and the two buffers the block leaves are the family of the 64
  groups (the codes) and the chain of 64 column updates (the scales).
-/
module

public import proofs.«01_k».proof.Proof.Gen.KernelIdeal.Frame
public import proofs.«01_k».proof.Proof.Scale

@[expose] public section

set_option maxRecDepth 16384

namespace Cert.KernelIdeal.Hand

open Idealize.ShloMosaic Cert.KernelIdeal.Gen Cert.KernelIdeal Cert.Hand

variable {F : FTy → Type} [FloatOps F]

/-- The offsets of group `n` in a block. -/
def groupOff (n : Nat) : Fin S256x8192.rank → Nat := ![0, 128 * n]

theorem groupOff_inb (n : Nat) (h : n < 64) : ∀ a, groupOff n a + S256x128.size a ≤ S256x8192.size a := by
  intro a
  fin_cases a
  · show 0 + 256 ≤ 256; omega
  · show 128 * n + 128 ≤ 8192; omega

/-- Group `n` of a block. -/
def groupRect (n : Nat) (h : n < 64) : Rect S256x8192 := Rect.unit (s := S256x8192) (groupOff n) S256x128.size (groupOff_inb n h)

/-- The values of group `n`. -/
noncomputable def groupOf (x0 : Vec F S256x8192 .f32) (n : Nat) (h : n < 64) : Vec F S256x128 .f32 := View.ld x0 (groupRect n h)

/-- The codes of one group. -/
noncomputable def groupCodes (v : Vec F S256x128 .f32) : FVec F S256x128 .fp8e4m3 := k0_pay5 (k0_pay4 v)

/-- Column `n` of the scales set from the exponents of one group, the other columns kept. -/
noncomputable def scaleStep (n : Nat) (acc : FVec F S256x64 .f32) (e : IVec S256x1 32) : FVec F S256x64 .f32 :=
  select (cmpi .eq (iota .tc S256x64 32 [1] iota_S256x64_d1_w32) (broadcast S256x64 (BitVec.ofNat 32 n)))
    (broadcastTo S256x64 (shapeCast S256x1 (bitcastToFloat .f32 (shli (addi e (broadcast S256x1 127#32)) (broadcast S256x1 23#32)))
      shapeCasts_S256x1_S256x1) broadcasts_S256x1_S256x64) acc

/-- The scales after the first `n` groups. -/
noncomputable def scaleChain (x0 : Vec F S256x8192 .f32) : (n : Nat) → n ≤ 64 → FVec F S256x64 .f32
  | 0, _ => k0_pay1
  | n + 1, h => scaleStep n (scaleChain x0 n (by omega)) (k0_pay3 (groupOf x0 n (by omega)))

set_option maxHeartbeats 4000000 in
theorem out0_1_eq (x0 : Vec F S256x8192 .f32) : out0_1 x0 = View.canon (List.ofFn fun k : Fin 64 =>
    (⟨groupRect (63 - k.val) (by omega), groupCodes (groupOf x0 (63 - k.val) (by omega))⟩ : View.Piece (Elt F) S256x8192 .fp8e4m3)) := rfl

set_option maxHeartbeats 4000000 in
theorem out0_2_eq (x0 : Vec F S256x8192 .f32) : out0_2 x0 = View.canon [⟨r0_64, scaleChain x0 64 (le_refl _)⟩] := rfl

/-! ### The two buffers at an index, over the extended reals -/

theorem groupExp_apply (v : Vec Ideal S256x128 .f32) (r : Fin 256) :
    k0_pay3 v (ix2 r 0) = expOf (tOf fun l => v (ix2 r l)) := by
  pointwise [k0_pay3, k0_pay2]
  rfl

/-- One code of a group with values `f`: the value times the inverse scale, clipped to the fp8 range. -/
noncomputable def codeOf (f : Fin 128 → EReal) (a : EReal) : EReal :=
  min (Ideal.ofBits .f32 1138753536#32) (max (Ideal.ofBits .f32 3286237184#32) (a * invOf (tOf f)))

theorem groupCodes_apply (v : Vec Ideal S256x128 .f32) (r : Fin 256) (l : Fin 128) :
    groupCodes v (ix2 r l) = codeOf (fun l => v (ix2 r l)) (v (ix2 r l)) := by
  unfold groupCodes
  pointwise [k0_pay5, k0_pay4, k0_pay2]
  rw [groupExp_apply]
  rfl

theorem scaleStep_apply (n : Nat) (acc : FVec Ideal S256x64 .f32) (e : IVec S256x1 32) (r : Fin 256) (c : Fin 64) :
    scaleStep n acc e (ix2 r c) = Scalar.select (IntOp.cmpi .eq (BitVec.ofNat 32 c.val) (BitVec.ofNat 32 n))
      (Ideal.ofBits .f32 (IntOp.shli .vector (IntOp.addi (e (ix2 r 0)) 127#32) 23#32)) (acc (ix2 r c)) := by
  unfold scaleStep
  pointwise

theorem groupOf_apply (x0 : Vec Ideal S256x8192 .f32) (n : Nat) (h : n < 64) (r : Fin 256) (l : Fin 128) :
    groupOf x0 n h (ix2 r l) = x0 (ix2 r ⟨128 * n + l.val, by omega⟩) :=
  View.ld_unit_apply_of x0 (groupOff n) S256x128.size (groupOff_inb n h) (ix2 r l) (ix2 r ⟨128 * n + l.val, by omega⟩)
    (by intro a; fin_cases a; exacts [(Nat.zero_add _).symm, rfl])

theorem scaleChain_apply (x0 : Vec Ideal S256x8192 .f32) (n : Nat) (h : n ≤ 64) (r : Fin 256) (c : Fin 64) :
    scaleChain x0 n h (ix2 r c) =
      if c.val < n then sclOf (tOf fun l => x0 (ix2 r ⟨128 * c.val + l.val, by omega⟩)) else 0 := by
  induction n with
  | zero =>
    rw [if_neg (by omega)]
    show k0_pay1 (ix2 r c) = 0
    pointwise [k0_pay1]
  | succ n ih =>
    show scaleStep n (scaleChain x0 n (by omega)) (k0_pay3 (groupOf x0 n (by omega))) (ix2 r c) = _
    rw [scaleStep_apply, groupExp_apply, ih]
    unfold Scalar.select IntOp.cmpi
    by_cases hc : c.val = n
    · subst hc
      rw [if_pos (by simp), if_pos (by omega)]
      show sclOf _ = _
      simp only [groupOf_apply]
    · have hne : BitVec.ofNat 32 c.val ≠ BitVec.ofNat 32 n := by
        intro hh
        have := congrArg BitVec.toNat hh
        simp only [BitVec.toNat_ofNat] at this
        omega
      rw [if_neg (by simp only [beq_false_of_ne hne]; decide)]
      by_cases hlt : c.val < n
      · rw [if_pos hlt, if_pos (by omega)]
      · rw [if_neg hlt, if_neg (by omega)]

/-- The scales of a block: at row `r`, group `c`, the scale of the group's 128 values. -/
theorem out0_2_apply (x0 : Vec Ideal S256x8192 .f32) (r : Fin 256) (c : Fin 64) :
    out0_2 x0 (ix2 r c) = sclOf (tOf fun l => x0 (ix2 r ⟨128 * c.val + l.val, by omega⟩)) := by
  rw [out0_2_eq]
  refine Eq.trans ?_ ((scaleChain_apply x0 64 (le_refl _) r c).trans (if_pos c.isLt))
  canon_tiles x h
  exact congrArg (scaleChain x0 64 (le_refl _)) (funext fun a => by fin_cases a; exacts [Fin.ext h0.symm, Fin.ext h1.symm])

/-- The codes of a block: at row `r`, column `c`, the value scaled by its group's inverse scale and clipped. -/
theorem out0_1_apply (x0 : Vec Ideal S256x8192 .f32) (r : Fin 256) (c : Fin 8192) :
    out0_1 x0 (ix2 r c) = codeOf (fun l => x0 (ix2 r ⟨128 * (c.val / 128) + l.val, by omega⟩)) (x0 (ix2 r c)) := by
  rw [out0_1_eq]
  refine View.canon_ofFn_unit_eq_of_forall (fun k : Fin 64 => groupOff (63 - k.val)) S256x128.size
    (fun k => groupOff_inb _ (by omega)) _ _ _ ?_ ?_
  · refine ⟨⟨63 - c.val / 128, by omega⟩, fun a => ?_⟩
    fin_cases a
    · show 0 ≤ r.val ∧ r.val < 0 + 256; omega
    · show 128 * (63 - (63 - c.val / 128)) ≤ c.val ∧ c.val < 128 * (63 - (63 - c.val / 128)) + 128; omega
  · intro k x hx
    have h0 : r.val = 0 + (x 0).val := hx 0
    have h1 : c.val = 128 * (63 - k.val) + (x 1).val := hx 1
    have hl : (x 1).val < 128 := (x 1).isLt
    obtain ⟨l, hl'⟩ : ∃ l : Fin 128, l.val = (x 1).val := ⟨⟨(x 1).val, hl⟩, rfl⟩
    have hx' : x = ix2 r l := by
      funext a; fin_cases a
      · exact Fin.ext (by show (x 0).val = r.val; omega)
      · exact Fin.ext hl'.symm
    rw [hx']
    refine (groupCodes_apply _ r l).trans ?_
    simp only [groupOf_apply]
    have hq : 63 - k.val = c.val / 128 := by omega
    have hc : (⟨128 * (63 - k.val) + l.val, by omega⟩ : Fin 8192) = c := Fin.ext (by show 128 * (63 - k.val) + l.val = c.val; omega)
    rw [hc]
    simp only [hq]

end Cert.KernelIdeal.Hand
-- ==== Proof.MatmulBlock.lean ====
/-
  WHAT ONE BLOCK OF THE MATRIX MULTIPLICATION HOLDS. The 64 groups of the contraction are unrolled in the program; here
  they are a chain of 64 equal steps, and the block is the sum over the groups plus the bias.
-/
module

public import proofs.«01_k».proof.Proof.Gen.KernelIdeal.Frame
public import Idealize.ShloMosaic.Lib.Pointwise
public import Idealize.ShloMosaic.Lib.Pipeline.ValueKit

@[expose] public section

set_option maxRecDepth 16384

namespace Cert.KernelIdeal.Hand

open Idealize.ShloMosaic Cert.KernelIdeal.Gen Cert.KernelIdeal

variable {F : FTy → Type} [FloatOps F]

/-- Group `n` of the codes: columns `128 n …`. -/
def codeRect (n : Nat) (h : n < 64) : Rect S256x8192 :=
  Rect.unit (s := S256x8192) ![0, 128 * n] S256x128.size (by
    intro a; fin_cases a
    · show 0 + 256 ≤ 256; omega
    · show 128 * n + 128 ≤ 8192; omega)

/-- Group `n` of the weights: rows `128 n …`. -/
def weightRect (n : Nat) (h : n < 64) : Rect S8192x512 :=
  Rect.unit (s := S8192x512) ![128 * n, 0] S128x512.size (by
    intro a; fin_cases a
    · show 128 * n + 128 ≤ 8192; omega
    · show 0 + 512 ≤ 512; omega)

/-- Column `n` of the activation scales. -/
def scaleRect (n : Nat) (h : n < 64) : Rect S256x64 :=
  Rect.unit (s := S256x64) ![0, n] S256x1.size (by
    intro a; fin_cases a
    · show 0 + 256 ≤ 256; omega
    · show n + 1 ≤ 64; omega)

/-- Row `n` of the weight scales. -/
def wscaleRect (n : Nat) (h : n < 64) : Rect S64x512 :=
  Rect.unit (s := S64x512) ![n, 0] S1x512.size (by
    intro a; fin_cases a
    · show n + 1 ≤ 64; omega
    · show 0 + 512 ≤ 512; omega)

/-- What `codeRect` holds. -/
noncomputable def codesOf (x : Vec F S256x8192 .fp8e4m3) (n : Nat) (h : n < 64) : Vec F S256x128 .fp8e4m3 := View.ld x (codeRect n h)

/-- What `weightRect` holds. -/
noncomputable def weightsOf (x : Vec F S8192x512 .fp8e4m3) (n : Nat) (h : n < 64) : Vec F S128x512 .fp8e4m3 := View.ld x (weightRect n h)

/-- What `scaleRect` holds. -/
noncomputable def scalesOf (x : Vec F S256x64 .f32) (n : Nat) (h : n < 64) : Vec F S256x1 .f32 := View.ld x (scaleRect n h)

/-- What `wscaleRect` holds. -/
noncomputable def wscalesOf (x : Vec F S64x512 .f32) (n : Nat) (h : n < 64) : Vec F S1x512 .f32 := View.ld x (wscaleRect n h)

/-- One group added to the accumulator: the group's product, times the row's scale, times the column's scale. -/
noncomputable def matStep (acc : FVec F S256x512 .f32) (a : Vec F S256x128 .fp8e4m3) (w : Vec F S128x512 .fp8e4m3)
    (s : Vec F S256x1 .f32) (b : Vec F S1x512 .f32) : FVec F S256x512 .f32 :=
  addf acc (mulf (mulf (k1_pay3 a w) (broadcastTo S256x512 (shapeCast S256x1 s shapeCasts_S256x1_S256x1) broadcasts_S256x1_S256x512))
    (broadcastTo S256x512 (shapeCast S1x512 b shapeCasts_S1x512_S1x512) broadcasts_S1x512_S256x512))

/-- The accumulator after the first `n` groups. -/
noncomputable def matChain (x0 : Vec F S256x8192 .fp8e4m3) (x1 : Vec F S256x64 .f32) (x2 : Vec F S8192x512 .fp8e4m3)
    (x3 : Vec F S64x512 .f32) : (n : Nat) → n ≤ 64 → FVec F S256x512 .f32
  | 0, _ => broadcast S256x512 (Scalar.ofBits .f32 0x00000000#32)
  | n + 1, h => matStep (matChain x0 x1 x2 x3 n (by omega)) (codesOf x0 n (by omega)) (weightsOf x2 n (by omega))
      (scalesOf x1 n (by omega)) (wscalesOf x3 n (by omega))

set_option maxHeartbeats 4000000 in
theorem out1_5_eq (x0 : Vec F S256x8192 .fp8e4m3) (x1 : Vec F S256x64 .f32) (x2 : Vec F S8192x512 .fp8e4m3)
    (x3 : Vec F S64x512 .f32) (x4 : Vec F S1x512 .f32) : out1_5 x0 x1 x2 x3 x4 =
      View.canon [⟨r1_257, k1_pay1 (matChain x0 x1 x2 x3 64 (le_refl _)) (k1_pay49 (View.ld x4 r1_256))⟩] := rfl

/-! ### The block at an index, over the extended reals -/

theorem codesOf_apply (x : Vec Ideal S256x8192 .fp8e4m3) (n : Nat) (h : n < 64) (r : Fin 256) (k : Fin 128) :
    codesOf x n h (ix2 r k) = x (ix2 r ⟨128 * n + k.val, by omega⟩) :=
  congrArg x (funext fun a => Fin.ext (by fin_cases a <;> simp [codeRect]))

theorem weightsOf_apply (x : Vec Ideal S8192x512 .fp8e4m3) (n : Nat) (h : n < 64) (k : Fin 128) (l : Fin 512) :
    weightsOf x n h (ix2 k l) = x (ix2 ⟨128 * n + k.val, by omega⟩ l) :=
  congrArg x (funext fun a => Fin.ext (by fin_cases a <;> simp [weightRect]))

theorem scalesOf_apply (x : Vec Ideal S256x64 .f32) (n : Nat) (h : n < 64) (r : Fin 256) :
    scalesOf x n h (ix2 r 0) = x (ix2 r ⟨n, h⟩) :=
  congrArg x (funext fun a => Fin.ext (by fin_cases a <;> simp [scaleRect]))

theorem wscalesOf_apply (x : Vec Ideal S64x512 .f32) (n : Nat) (h : n < 64) (l : Fin 512) :
    wscalesOf x n h (ix2 0 l) = x (ix2 ⟨n, h⟩ l) :=
  congrArg x (funext fun a => Fin.ext (by fin_cases a <;> simp [wscaleRect]))

theorem matStep_apply (acc : FVec Ideal S256x512 .f32) (a : Vec Ideal S256x128 .fp8e4m3) (w : Vec Ideal S128x512 .fp8e4m3)
    (s : Vec Ideal S256x1 .f32) (b : Vec Ideal S1x512 .f32) (r : Fin 256) (l : Fin 512) :
    matStep acc a w s b (ix2 r l) =
      acc (ix2 r l) + (∑ k : Fin 128, a (ix2 r k) * w (ix2 k l)) * s (ix2 r 0) * b (ix2 0 l) := by
  unfold matStep
  pointwise [k1_pay3]

/-- Group `g`'s part of the sum at row `r`, column `l`. -/
noncomputable def matTerm (x0 : Vec Ideal S256x8192 .fp8e4m3) (x1 : Vec Ideal S256x64 .f32) (x2 : Vec Ideal S8192x512 .fp8e4m3)
    (x3 : Vec Ideal S64x512 .f32) (r : Fin 256) (l : Fin 512) (g : Fin 64) : EReal :=
  (∑ k : Fin 128, x0 (ix2 r ⟨128 * g.val + k.val, by omega⟩) * x2 (ix2 ⟨128 * g.val + k.val, by omega⟩ l))
    * x1 (ix2 r g) * x3 (ix2 g l)

theorem matChain_apply (x0 : Vec Ideal S256x8192 .fp8e4m3) (x1 : Vec Ideal S256x64 .f32) (x2 : Vec Ideal S8192x512 .fp8e4m3)
    (x3 : Vec Ideal S64x512 .f32) (n : Nat) (h : n ≤ 64) (r : Fin 256) (l : Fin 512) :
    matChain x0 x1 x2 x3 n h (ix2 r l) = ∑ g : Fin n, matTerm x0 x1 x2 x3 r l ⟨g.val, by omega⟩ := by
  induction n with
  | zero =>
    show broadcast S256x512 (Scalar.ofBits (F := Ideal) .f32 0x00000000#32) (ix2 r l) = _
    pointwise
    simp
  | succ n ih =>
    rw [Fin.sum_univ_castSucc]
    show matStep (matChain x0 x1 x2 x3 n (by omega)) _ _ _ _ (ix2 r l) = _
    rw [matStep_apply, ih]
    congr 1
    unfold matTerm
    simp only [codesOf_apply, weightsOf_apply, scalesOf_apply, wscalesOf_apply]
    rfl

/-- The block of the output: the sum over the 64 groups, plus the bias of the column. -/
theorem out1_5_apply (x0 : Vec Ideal S256x8192 .fp8e4m3) (x1 : Vec Ideal S256x64 .f32) (x2 : Vec Ideal S8192x512 .fp8e4m3)
    (x3 : Vec Ideal S64x512 .f32) (x4 : Vec Ideal S1x512 .f32) (r : Fin 256) (l : Fin 512) :
    out1_5 x0 x1 x2 x3 x4 (ix2 r l) = (∑ g : Fin 64, matTerm x0 x1 x2 x3 r l g) + x4 (ix2 0 l) := by
  rw [out1_5_eq]
  have hm := matChain_apply x0 x1 x2 x3 64 (le_refl _) r l
  have hv : k1_pay1 (matChain x0 x1 x2 x3 64 (le_refl _)) (k1_pay49 (View.ld x4 r1_256)) (ix2 r l)
      = (∑ g : Fin 64, matTerm x0 x1 x2 x3 r l g) + x4 (ix2 0 l) := by
    generalize hM : matChain x0 x1 x2 x3 64 (le_refl _) = M at hm ⊢
    pointwise [k1_pay1, k1_pay49]
    rw [hm]
  refine Eq.trans ?_ hv
  canon_tiles x h
  exact congrArg (k1_pay1 (matChain x0 x1 x2 x3 64 (le_refl _)) (k1_pay49 (View.ld x4 r1_256)))
    (funext fun a => by fin_cases a; exacts [Fin.ext h0.symm, Fin.ext h1.symm])

end Cert.KernelIdeal.Hand
-- ==== Proof.Arrays.lean ====
/-
  WHAT THE TWO CALLS LEAVE IN THEIR ARRAYS. Each grid point writes one block; the blocks tile the arrays, so each array is
  one function of the arrays the call was given.
-/
module

public import proofs.«01_k».proof.Proof.QuantBlock
public import proofs.«01_k».proof.Proof.MatmulBlock
public import Idealize.ShloMosaic.Lib.Pipeline.ValueKit
public import Idealize.ShloMosaic.Lib.Pipeline.Covers

@[expose] public section

set_option maxRecDepth 16384

noncomputable section

namespace Cert.KernelIdeal.Hand

open Idealize.ShloMosaic Idealize.ShloMosaic.TcCoe Cert.KernelIdeal Cert.KernelIdeal.Gen Cert.Hand
open Idealize.ShloMosaic.Pipeline (Dat)

/-- The scale factor of group `g` of row `r`. -/
def groupT (X : S4096x8192.Idx → EReal) (r : Fin 4096) (g : Fin 64) : EReal :=
  tOf fun l => X (ix2 r ⟨128 * g.val + l.val, by omega⟩)

/-- The codes of a matrix. -/
def codeAt (X : S4096x8192.Idx → EReal) (r : Fin 4096) (c : Fin 8192) : EReal :=
  codeOf (fun l => X (ix2 r ⟨128 * (c.val / 128) + l.val, by omega⟩)) (X (ix2 r c))

theorem idx0 : ∀ t : Fin cfg0.N, win0_0.index t = ![t.val, 0] ∧ win0_1.index t = ![t.val, 0] ∧ win0_2.index t = ![t.val, 0] :=
  (by decide +kernel : ∀ t : Fin grid0.N, _)

variable (V : (c : Dev nD) → (b : Ref sig .tc) → Buf (Elt Ideal) ((c : Thread nD τ).loc b)) (c : Dev nD)

/-- The block of `x` at a grid point: 256 rows of it. -/
theorem x_blk (t : Fin cfg0.N) (r : Fin 256) (k : Fin 8192) :
    iblk0 V c 0 t (ix2 r k)
      = V c main_v0 (ix2 ⟨t.val * 256 + r.val, by have := t.isLt; have := r.isLt; have : cfg0.N = 16 := rfl; omega⟩ k) := by
  blk_ext [iblk0, (idx0 t).1]

/-- The codes after the first call. -/
theorem codes_arr :
    (dat0 V c).arrAt 1 cfg0.N = fun j : S4096x8192.Idx => codeAt (V c main_v0) (j 0) (j 1) := by
  refine (dat0 V c).arrAt_eq_of_covers 1 _ (by decide +kernel) fun t hf y => ?_
  blk_simp
  rw [after0_1]
  idx_vars y
  have hN : t.val < 16 := t.isLt
  refine (out0_1_apply _ y0 y1).trans (Eq.trans ?_ (congrArg₂ (codeAt (V c main_v0))
    (x := ⟨t.val * 256 + y0.val, by omega⟩) (y := y1) (Fin.ext ?_) (Fin.ext ?_)))
  · simp only [x_blk, codeAt]
  · blk_simp [(idx0 t).2.1]
  · blk_simp [(idx0 t).2.1]

/-- The scales after the first call. -/
theorem scales_arr :
    (dat0 V c).arrAt 2 cfg0.N = fun j : S4096x64.Idx => sclOf (groupT (V c main_v0) (j 0) (j 1)) := by
  refine (dat0 V c).arrAt_eq_of_covers 2 _ (by decide +kernel) fun t hf y => ?_
  blk_simp
  rw [after0_2]
  idx_vars y
  have hN : t.val < 16 := t.isLt
  refine (out0_2_apply _ y0 y1).trans (Eq.trans ?_ (congrArg₂ (fun r g => sclOf (groupT (V c main_v0) r g))
    (x := ⟨t.val * 256 + y0.val, by omega⟩) (y := y1) (Fin.ext ?_) (Fin.ext ?_)))
  · simp only [x_blk, groupT]
  · blk_simp [(idx0 t).2.2]
  · blk_simp [(idx0 t).2.2]

/-! ## The second call -/

/-- The blocked product: each group's product scaled by its two scales, summed over the groups, and the bias. -/
def outAt (C : S4096x8192.Idx → EReal) (S : S4096x64.Idx → EReal) (W : S8192x32768.Idx → EReal)
    (T : S64x32768.Idx → EReal) (B : S1x32768.Idx → EReal) (r : Fin 4096) (l : Fin 32768) : EReal :=
  (∑ g : Fin 64, (∑ k : Fin 128, C (ix2 r ⟨128 * g.val + k.val, by omega⟩) * W (ix2 ⟨128 * g.val + k.val, by omega⟩ l))
    * S (ix2 r g) * T (ix2 g l)) + B (ix2 0 l)

/-- The column block of a grid point of the second call. -/
def colOf (t : Fin cfg1.N) : Fin 64 := grid1.coords t 0
/-- The row block of a grid point of the second call. -/
def rowOf (t : Fin cfg1.N) : Fin 16 := grid1.coords t 1

theorem ofNat_toNat (n : Nat) (h : n < 64) : (BitVec.ofNat 32 n).toNat = n := by
  rw [BitVec.toNat_ofNat]; omega

theorem idx1_0 (t : Fin cfg1.N) : win1_0.index t = ![(rowOf t).val, 0] := by
  show ![(BitVec.ofNat 32 (rowOf t).val).toNat, 0] = _
  rw [ofNat_toNat _ (by omega)]
theorem idx1_1 (t : Fin cfg1.N) : win1_1.index t = ![(rowOf t).val, 0] := by
  show ![(BitVec.ofNat 32 (rowOf t).val).toNat, 0] = _
  rw [ofNat_toNat _ (by omega)]
theorem idx1_2 (t : Fin cfg1.N) : win1_2.index t = ![0, (colOf t).val] := by
  show ![0, (BitVec.ofNat 32 (colOf t).val).toNat] = _
  rw [ofNat_toNat _ (by omega)]
theorem idx1_3 (t : Fin cfg1.N) : win1_3.index t = ![0, (colOf t).val] := by
  show ![0, (BitVec.ofNat 32 (colOf t).val).toNat] = _
  rw [ofNat_toNat _ (by omega)]
theorem idx1_4 (t : Fin cfg1.N) : win1_4.index t = ![0, (colOf t).val] := by
  show ![0, (BitVec.ofNat 32 (colOf t).val).toNat] = _
  rw [ofNat_toNat _ (by omega)]
theorem idx1_5 (t : Fin cfg1.N) : win1_5.index t = ![(rowOf t).val, (colOf t).val] := by
  show ![(BitVec.ofNat 32 (rowOf t).val).toNat, (BitVec.ofNat 32 (colOf t).val).toNat] = _
  rw [ofNat_toNat _ (by omega), ofNat_toNat _ (by omega)]

theorem c_blk (t : Fin cfg1.N) (r : Fin 256) (k : Fin 8192) :
    iblk1 V c 0 t (ix2 r k) = V c main_v1_0 (ix2 ⟨(rowOf t).val * 256 + r.val, by omega⟩ k) := by
  blk_ext [iblk1, idx1_0 t]
theorem s_blk (t : Fin cfg1.N) (r : Fin 256) (k : Fin 64) :
    iblk1 V c 1 t (ix2 r k) = V c main_v1_1 (ix2 ⟨(rowOf t).val * 256 + r.val, by omega⟩ k) := by
  blk_ext [iblk1, idx1_1 t]
theorem w_blk (t : Fin cfg1.N) (k : Fin 8192) (l : Fin 512) :
    iblk1 V c 2 t (ix2 k l) = V c main_arg1 (ix2 k ⟨(colOf t).val * 512 + l.val, by omega⟩) := by
  blk_ext [iblk1, idx1_2 t]
theorem ws_blk (t : Fin cfg1.N) (k : Fin 64) (l : Fin 512) :
    iblk1 V c 3 t (ix2 k l) = V c main_v3 (ix2 k ⟨(colOf t).val * 512 + l.val, by omega⟩) := by
  blk_ext [iblk1, idx1_3 t]
theorem b_blk (t : Fin cfg1.N) (k : Fin 1) (l : Fin 512) :
    iblk1 V c 4 t (ix2 k l) = V c main_v4 (ix2 k ⟨(colOf t).val * 512 + l.val, by omega⟩) := by
  blk_ext [iblk1, idx1_4 t]

/-- The output blocks of the second call cover the output: block `(i, j)` is written at column block `j`, row block `i`. -/
theorem covers1 : (cfg1.win 5).Covers := by
  refine (cfg1.win 5).covers_of_indexMap_surj rfl (by decide) fun β =>
    ⟨fun a => match a with
      | ⟨0, _⟩ => (β 1 : Fin 64)
      | ⟨1, _⟩ => (β 0 : Fin 16), fun a => ?_⟩
  match a with
  | ⟨0, _⟩ => exact ofNat_toNat (β 0).val (by have h : (β 0).val < 16 := (β 0).isLt; omega)
  | ⟨1, _⟩ => exact ofNat_toNat (β 1).val (β 1).isLt

/-- The output after the second call. -/
theorem out_arr :
    (dat1 V c).arrAt 5 cfg1.N = fun j : S4096x32768.Idx =>
      outAt (V c main_v1_0) (V c main_v1_1) (V c main_arg1) (V c main_v3) (V c main_v4) (j 0) (j 1) := by
  refine (dat1 V c).arrAt_eq_of_covers 5 _ covers1 fun t hf y => ?_
  blk_simp
  rw [after1_5]
  idx_vars y
  refine (out1_5_apply _ _ _ _ _ y0 y1).trans (Eq.trans ?_ (congrArg₂
    (outAt (V c main_v1_0) (V c main_v1_1) (V c main_arg1) (V c main_v3) (V c main_v4))
    (x := ⟨(rowOf t).val * 256 + y0.val, by omega⟩) (y := ⟨(colOf t).val * 512 + y1.val, by omega⟩) (Fin.ext ?_) (Fin.ext ?_)))
  · simp only [matTerm, c_blk, s_blk, w_blk, ws_blk, b_blk, outAt]
  · blk_simp [idx1_5 t]
  · blk_simp [idx1_5 t]

end Cert.KernelIdeal.Hand
-- ==== Proof.HostRead.lean ====
/-
  THE RESULTS OF THE KERNEL OVER ITS ARGUMENTS: the host's reshapes and broadcasts around the two calls, read at an index,
  and the two calls' arrays put together.
-/
module

public import proofs.«01_k».proof.Proof.Arrays

@[expose] public section

set_option maxRecDepth 16384

noncomputable section

namespace Cert.KernelIdeal.Hand

open Idealize.ShloMosaic Idealize.ShloMosaic.TcCoe Cert.KernelIdeal Cert.KernelIdeal.Gen Cert.Hand

/-! ## Reshapes at an index -/

theorem flat_apply (v : Vec Ideal S1x4096x8192 .f32) (r : Fin 4096) (k : Fin 8192) :
    shapeCast S4096x8192 v shapeCasts_S1x4096x8192_S4096x8192 (ix2 r k) = v (ix3 0 r k) := by
  pointwise
theorem bias_apply (v : Vec Ideal S32768 .f32) (l : Fin 32768) :
    shapeCast S1x32768 v shapeCasts_S32768_S1x32768 (ix2 0 l) = v (ix1 l) := by
  pointwise
theorem outUnflat_apply (v : Vec Ideal S4096x32768 .f32) (r : Fin 4096) (l : Fin 32768) :
    shapeCast S1x4096x32768 v shapeCasts_S4096x32768_S1x4096x32768 (ix3 0 r l) = v (ix2 r l) := by
  pointwise
theorem codesUnflat_apply (v : Vec Ideal S4096x8192 .fp8e4m3) (r : Fin 4096) (k : Fin 8192) :
    shapeCast S1x4096x8192 v shapeCasts_S4096x8192_S1x4096x8192 (ix3 0 r k) = v (ix2 r k) := by
  pointwise
theorem scalesUnflat_apply (v : Vec Ideal S4096x64 .f32) (r : Fin 4096) (k : Fin 64) :
    shapeCast S1x4096x64 v shapeCasts_S4096x64_S1x4096x64 (ix3 0 r k) = v (ix2 r k) := by
  pointwise
theorem wscale_apply (v : Vec Ideal S64x256 .f32) (g : Fin 64) (l : Fin 32768) :
    shapeCast S64x32768 (broadcastInDim S64x256x128 ![0, 1] bcast_S64x256_S64x256x128_0_1 v)
      shapeCasts_S64x256x128_S64x32768 (ix2 g l) = v (ix2 g ⟨l.val / 128, by omega⟩) := by
  pointwise

/-! ## The argument arrays as the two calls see them -/

/-- The rows of `x`. -/
def flat (x : S1x4096x8192.Idx → EReal) : S4096x8192.Idx → EReal := fun j => x (ix3 0 (j 0) (j 1))
/-- The codes of `x`. -/
def codeMat (x : S1x4096x8192.Idx → EReal) : S4096x8192.Idx → EReal := fun j => codeAt (flat x) (j 0) (j 1)
/-- The scales of `x`. -/
def scaleMat (x : S1x4096x8192.Idx → EReal) : S4096x64.Idx → EReal := fun j => sclOf (groupT (flat x) (j 0) (j 1))
/-- The weight scales, each spread over its 128 columns. -/
def spread (s : S64x256.Idx → EReal) : S64x32768.Idx → EReal := fun j => s (ix2 (j 0) ⟨(j 1).val / 128, by have := (j 1).isLt; show _ < 256; change _ < 32768 at this; omega⟩)
/-- The bias as a row. -/
def rowOfBias (b : S32768.Idx → EReal) : S1x32768.Idx → EReal := fun j => b (ix1 (j 1))

theorem flat_eq (v : Vec Ideal S1x4096x8192 .f32) : shapeCast S4096x8192 v shapeCasts_S1x4096x8192_S4096x8192 = flat v := by
  funext j
  idx_vars j
  exact flat_apply v j0 j1
theorem spread_eq (v : Vec Ideal S64x256 .f32) :
    shapeCast S64x32768 (broadcastInDim S64x256x128 ![0, 1] bcast_S64x256_S64x256x128_0_1 v)
      shapeCasts_S64x256x128_S64x32768 = spread v := by
  funext j
  idx_vars j
  exact wscale_apply v j0 j1
theorem rowOfBias_eq (v : Vec Ideal S32768 .f32) : shapeCast S1x32768 v shapeCasts_S32768_S1x32768 = rowOfBias v := by
  funext j
  idx_vars j
  obtain rfl : j0 = 0 := Subsingleton.elim _ _
  exact bias_apply v j1

variable (m : (ℓ : Loc nD τ sig) → Buf (Elt Ideal) ℓ) (ρ : Dev nD → PrngReg) (c : Dev nD)

/-! ## Before the first call -/

theorem v1_x : V1 m ρ c main_v0 = flat (m ((c.tc : Thread nD τ).loc main_arg0)) :=
  flat_eq (m ((c.tc : Thread nD τ).loc main_arg0))

/-! ## Between the calls -/

theorem v3_codes : V3 m ρ c main_v1_0 = codeMat (m ((c.tc : Thread nD τ).loc main_arg0)) :=
  (W3_of m ρ c main_v1_0 (by decide)).trans ((W2_arr m ρ c 1).trans ((codes_arr (V1 m ρ) c).trans
    (congrArg (fun X : S4096x8192.Idx → EReal => fun j : S4096x8192.Idx => codeAt X (j 0) (j 1)) (v1_x m ρ c))))
theorem v3_scales : V3 m ρ c main_v1_1 = scaleMat (m ((c.tc : Thread nD τ).loc main_arg0)) :=
  (W3_of m ρ c main_v1_1 (by decide)).trans ((W2_arr m ρ c 2).trans ((scales_arr (V1 m ρ) c).trans
    (congrArg (fun X : S4096x8192.Idx → EReal => fun j : S4096x64.Idx => sclOf (groupT X (j 0) (j 1))) (v1_x m ρ c))))
theorem v3_w : V3 m ρ c main_arg1 = m ((c.tc : Thread nD τ).loc main_arg1) :=
  W3_args m ρ c main_arg1 (by decide)

/-- The stretch between the calls, from any contents. -/
theorem stretch_ws (V : (b : DevRef τ sig) → b.ty.Contents (Elt Ideal)) :
    StableHlo.after hostOps1 V (Proc.devRef .tc main_v3) = spread (V (Proc.devRef .tc main_arg2)) :=
  spread_eq (V (Proc.devRef .tc main_arg2))
theorem stretch_bias (V : (b : DevRef τ sig) → b.ty.Contents (Elt Ideal)) :
    StableHlo.after hostOps1 V (Proc.devRef .tc main_v4) = rowOfBias (V (Proc.devRef .tc main_arg3)) :=
  rowOfBias_eq (V (Proc.devRef .tc main_arg3))

theorem v3_ws : V3 m ρ c main_v3 = spread (m ((c.tc : Thread nD τ).loc main_arg2)) :=
  (stretch_ws (W2 m ρ c)).trans (congrArg spread (W2_args m ρ c main_arg2 (by decide)))
theorem v3_bias : V3 m ρ c main_v4 = rowOfBias (m ((c.tc : Thread nD τ).loc main_arg3)) :=
  (stretch_bias (W2 m ρ c)).trans (congrArg rowOfBias (W2_args m ρ c main_arg3 (by decide)))

/-! ## After the second call -/

theorem stretch_out (V : (b : DevRef τ sig) → b.ty.Contents (Elt Ideal)) (r : Fin 4096) (l : Fin 32768) :
    StableHlo.after hostOps2 V (Proc.devRef .tc main_v6) (ix3 0 r l) = V (Proc.devRef .tc main_v5) (ix2 r l) :=
  outUnflat_apply (V (Proc.devRef .tc main_v5)) r l
theorem stretch_codes (V : (b : DevRef τ sig) → b.ty.Contents (Elt Ideal)) (r : Fin 4096) (k : Fin 8192) :
    StableHlo.after hostOps2 V (Proc.devRef .tc main_v7) (ix3 0 r k) = V (Proc.devRef .tc main_v1_0) (ix2 r k) :=
  codesUnflat_apply (V (Proc.devRef .tc main_v1_0)) r k
theorem stretch_scales (V : (b : DevRef τ sig) → b.ty.Contents (Elt Ideal)) (r : Fin 4096) (g : Fin 64) :
    StableHlo.after hostOps2 V (Proc.devRef .tc main_v8) (ix3 0 r g) = V (Proc.devRef .tc main_v1_1) (ix2 r g) :=
  scalesUnflat_apply (V (Proc.devRef .tc main_v1_1)) r g

/-! ## The results over the argument arrays -/

/-- The scale of group `g` of row `r`. -/
theorem scales_result (r : Fin 4096) (g : Fin 64) :
    W5 m ρ c (Proc.devRef .tc main_v8) (ix3 0 r g) = scaleMat (m ((c.tc : Thread nD τ).loc main_arg0)) (ix2 r g) :=
  (stretch_scales (W4 m ρ c) r g).trans ((congrFun (W4_of m ρ c main_v1_1 (by decide)) _).trans
    (congrFun (v3_scales m ρ c) _))

/-- The code at row `r`, column `k`. -/
theorem codes_result (r : Fin 4096) (k : Fin 8192) :
    W5 m ρ c (Proc.devRef .tc main_v7) (ix3 0 r k) = codeMat (m ((c.tc : Thread nD τ).loc main_arg0)) (ix2 r k) :=
  (stretch_codes (W4 m ρ c) r k).trans ((congrFun (W4_of m ρ c main_v1_0 (by decide)) _).trans
    (congrFun (v3_codes m ρ c) _))

/-- The output at row `r`, column `l`. -/
theorem out_result (r : Fin 4096) (l : Fin 32768) :
    W5 m ρ c (Proc.devRef .tc main_v6) (ix3 0 r l) =
      outAt (codeMat (m ((c.tc : Thread nD τ).loc main_arg0))) (scaleMat (m ((c.tc : Thread nD τ).loc main_arg0)))
        (m ((c.tc : Thread nD τ).loc main_arg1)) (spread (m ((c.tc : Thread nD τ).loc main_arg2)))
        (rowOfBias (m ((c.tc : Thread nD τ).loc main_arg3))) r l := by
  refine (stretch_out (W4 m ρ c) r l).trans ((congrFun (W4_arr m ρ c 5) _).trans ((congrFun (out_arr (V3 m ρ) c) _).trans ?_))
  show outAt (V3 m ρ c main_v1_0) (V3 m ρ c main_v1_1) (V3 m ρ c main_arg1) (V3 m ρ c main_v3) (V3 m ρ c main_v4) r l = _
  rw [v3_codes, v3_scales, v3_w, v3_ws, v3_bias]

end Cert.KernelIdeal.Hand
-- ==== Proof.Equation.lean ====
/-
  THE KERNEL'S RESULTS ARE THE REFERENCE'S: on finite values the kernel's scale (found by its exponent field) is the
  least power of two above the scale factor, its inverse one over that, and the three results agree index by index.
-/
module

public import proofs.«01_k».proof.Proof.HostRead
public import proofs.«01_k».proof.Proof.RefRead
public import proofs.«01_k».proof.Pre_finite

@[expose] public section

set_option maxRecDepth 16384

noncomputable section

namespace Cert.KernelIdeal.Hand

open Idealize.ShloMosaic Idealize.ShloMosaic.TcCoe Cert.KernelIdeal Cert.KernelIdeal.Gen Cert.Hand
open Cert.ReferenceIdeal.Hand (refCode)

/-- Every value is at most the largest finite float in magnitude. -/
def Bounded (x : S1x4096x8192.Idx → EReal) : Prop := ∀ j, max (x j) (-(x j)) ≤ Ideal.ofBits .f32 2139095039#32

variable {x : S1x4096x8192.Idx → EReal}

/-- The two spellings of a group's largest magnitude, with `n` the group's number. -/
theorem tOf_eq (r : Fin 4096) (n : Nat) (hn : n < 64) :
    (tOf fun l : Fin 128 => flat x (ix2 r ⟨128 * n + l.val, by omega⟩))
      = tOf fun l : Fin 128 => x (ix3 0 r ⟨n * 128 + l.val, by omega⟩) := by
  refine congrArg tOf (funext fun l => ?_)
  refine congrArg (fun k => x (ix3 0 r k)) (Fin.ext ?_)
  show 128 * n + l.val = n * 128 + l.val
  omega

theorem scale_eq_ref (hx : Bounded x) (r : Fin 4096) (g : Fin 64) :
    scaleMat x (ix2 r g) = Cert.ReferenceIdeal.Gen.k0_pay5 (F := Ideal) x (ix3 r g 0) := by
  have hT := tOf_range (fun l : Fin 128 => x (ix3 0 r ⟨g.val * 128 + l.val, by omega⟩)) fun l => hx _
  refine Eq.trans ?_ (Cert.ReferenceIdeal.Hand.scale_apply x r g).symm
  refine Eq.trans ?_ (scale_eq _ hT.1 hT.2)
  exact congrArg sclOf (tOf_eq r g.val g.isLt)

theorem code_eq_ref (hx : Bounded x) (r : Fin 4096) (g : Fin 64) (k : Fin 128) :
    codeMat x (ix2 r ⟨128 * g.val + k.val, by omega⟩) = Cert.ReferenceIdeal.Gen.k0_pay6 (F := Ideal) x (ix3 r g k) := by
  have hT := tOf_range (fun l : Fin 128 => x (ix3 0 r ⟨g.val * 128 + l.val, by omega⟩)) fun l => hx _
  refine Eq.trans ?_ (Cert.ReferenceIdeal.Hand.code_apply x r g k).symm
  show codeOf (fun l : Fin 128 => flat x (ix2 r ⟨128 * ((128 * g.val + k.val) / 128) + l.val, by omega⟩))
    (flat x (ix2 r ⟨128 * g.val + k.val, by omega⟩)) = _
  unfold codeOf refCode
  rw [tOf_eq r ((128 * g.val + k.val) / 128) (by omega)]
  have hg : (128 * g.val + k.val) / 128 = g.val := by omega
  simp only [hg]
  rw [inv_eq _ hT.1 hT.2]
  have hk : flat x (ix2 r ⟨128 * g.val + k.val, by omega⟩) = x (ix3 0 r ⟨g.val * 128 + k.val, by omega⟩) :=
    congrArg (fun k => x (ix3 0 r k)) (Fin.ext (by show 128 * g.val + k.val = g.val * 128 + k.val; omega))
  rw [hk]

theorem out_eq_ref (hx : Bounded x) (w : S8192x32768.Idx → EReal) (s : S64x256.Idx → EReal) (b : S32768.Idx → EReal)
    (r : Fin 4096) (l : Fin 32768) :
    outAt (codeMat x) (scaleMat x) w (spread s) (rowOfBias b) r l =
      Cert.ReferenceIdeal.Gen.k0_pay1 (F := Ideal) (Cert.ReferenceIdeal.Gen.k0_pay7 x w) (Cert.ReferenceIdeal.Gen.k0_pay8 s) b
        (ix3 0 r l) := by
  refine Eq.trans ?_ (Cert.ReferenceIdeal.Hand.out_apply x w s b r l).symm
  unfold outAt
  refine congrArg₂ (· + ·) (Finset.sum_congr rfl fun g _ => ?_) rfl
  refine congrArg₂ (· * ·) (congrArg₂ (· * ·) (Finset.sum_congr rfl fun k _ => ?_) (scale_eq_ref hx r g)) rfl
  refine congrArg₂ (· * ·) (code_eq_ref hx r g k) ?_
  exact congrArg (fun k => w (ix2 k l)) (Fin.ext (by show 128 * g.val + k.val = g.val * 128 + k.val; omega))

variable (m : (ℓ : Loc nD τ sig) → Buf (Elt Ideal) ℓ) (ρ : Dev nD → PrngReg) (c : Dev nD)

/-- The scales. -/
theorem scales_agree (hx : Bounded (m ((c.tc : Thread nD τ).loc main_arg0))) :
    W5 m ρ c (Proc.devRef .tc main_v8) =
      Cert.ReferenceIdeal.Gen.k0_pay3 (F := Ideal) (Cert.ReferenceIdeal.Gen.k0_pay5 (m ((c.tc : Thread nD τ).loc main_arg0))) := by
  refine funext fun j : S1x4096x64.Idx => ?_
  idx_vars j
  obtain rfl : j0 = 0 := Subsingleton.elim _ _
  exact (scales_result m ρ c j1 j2).trans ((scale_eq_ref hx j1 j2).trans (Cert.ReferenceIdeal.Hand.scalesOut_apply _ j1 j2).symm)

/-- The codes. -/
theorem codes_agree (hx : Bounded (m ((c.tc : Thread nD τ).loc main_arg0))) :
    W5 m ρ c (Proc.devRef .tc main_v7) =
      Cert.ReferenceIdeal.Gen.k0_pay2 (F := Ideal) (Cert.ReferenceIdeal.Gen.k0_pay6 (m ((c.tc : Thread nD τ).loc main_arg0))) := by
  refine funext fun j : S1x4096x8192.Idx => ?_
  idx_vars j
  obtain rfl : j0 = 0 := Subsingleton.elim _ _
  refine (codes_result m ρ c j1 j2).trans (Eq.trans ?_ (Cert.ReferenceIdeal.Hand.ungroup_apply _ j1 j2).symm)
  refine Eq.trans (congrArg (fun k => codeMat (m ((c.tc : Thread nD τ).loc main_arg0)) (ix2 j1 k)) (Fin.ext ?_))
    (code_eq_ref hx j1 ⟨j2.val / 128, by omega⟩ ⟨j2.val % 128, by omega⟩)
  show j2.val = 128 * (j2.val / 128) + j2.val % 128
  omega

/-- The output. -/
theorem out_agree (hx : Bounded (m ((c.tc : Thread nD τ).loc main_arg0))) :
    W5 m ρ c (Proc.devRef .tc main_v6) =
      Cert.ReferenceIdeal.Gen.k0_pay1 (F := Ideal)
        (Cert.ReferenceIdeal.Gen.k0_pay7 (m ((c.tc : Thread nD τ).loc main_arg0)) (m ((c.tc : Thread nD τ).loc main_arg1)))
        (Cert.ReferenceIdeal.Gen.k0_pay8 (m ((c.tc : Thread nD τ).loc main_arg2))) (m ((c.tc : Thread nD τ).loc main_arg3)) := by
  refine funext fun j : S1x4096x32768.Idx => ?_
  idx_vars j
  obtain rfl : j0 = 0 := Subsingleton.elim _ _
  exact (out_result m ρ c j1 j2).trans (out_eq_ref hx _ _ _ j1 j2)

/-- What the precondition says of each value. -/
theorem bounded_of_pre [Cert.Pre_finite.Facts] (x : FVec Ideal S1x4096x8192 .f32) (w : FVec Ideal S8192x32768 .fp8e4m3) (s : FVec Ideal S64x256 .f32)
    (b : FVec Ideal S32768 .f32) (h : Cert.Pre_finite.fn (F := Ideal) x w s b = fun _ => 1#1) : Bounded x := by
  intro j
  have hj := congrFun h j
  have e : Cert.Pre_finite.fn (F := Ideal) x w s b j
      = BitVec.ofBool (decide (max (x j) (-(x j)) ≤ Ideal.ofBits .f32 2139095039#32)) := by
    idx_vars j
    pointwise [Cert.Pre_finite.fn]
    rfl
  rw [e] at hj
  by_contra hc
  rw [decide_eq_false hc] at hj
  exact absurd hj (by decide)

end Cert.KernelIdeal.Hand
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_finite
public import Idealize.ShloMosaic.Adequacy
public import Idealize.ShloMosaic.Init
public import proofs.«01_k».proof.Proof.Run
public import proofs.«01_k».proof.Proof.RefRun
public import proofs.«01_k».proof.Proof.Equation

@[expose] public section

noncomputable section

namespace Cert.Proof

open Idealize.ShloMosaic Idealize.SL.Sem Cert.Kernel

/-- The kernel's results are the reference's: on memories that agree on the arguments, with finite activations, both
    programs run, their three results are equal, and the arguments end unchanged. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hagree
  refine ⟨fun c => Cert.KernelIdeal.Gen.W5 m g c (Proc.devRef .tc Cert.KernelIdeal.main_v6),
    fun c => Cert.KernelIdeal.Gen.W5 m g c (Proc.devRef .tc Cert.KernelIdeal.main_v7),
    fun c => Cert.KernelIdeal.Gen.W5 m g c (Proc.devRef .tc Cert.KernelIdeal.main_v8),
    (θ_run _ _ _).mono ?_ (Cert.KernelIdeal.Hand.run (F := Ideal) m g),
    (θ_run _ _ _).mono ?_ (Cert.ReferenceIdeal.Hand.run m' g')⟩
  · intro r h c
    have hc := h c
    exact ⟨hc.1.1, hc.1.2.1, hc.1.2.2, hc.2⟩
  · intro r h c
    have hx : Cert.KernelIdeal.Hand.Bounded _ := Cert.KernelIdeal.Hand.bounded_of_pre _ _ _ _ (hpre c)
    have hc := h c
    obtain ⟨a0, a1, a2, a3⟩ := hagree c
    obtain ⟨⟨h0, h1, h2⟩, h3⟩ := hc
    refine ⟨?_, ?_, ?_, h3⟩
    · rw [a0, a1, a2, a3] at h0
      exact h0.trans (Cert.KernelIdeal.Hand.out_agree m g c hx).symm
    · rw [a0] at h1
      exact h1.trans (Cert.KernelIdeal.Hand.codes_agree m g c hx).symm
    · rw [a0] at h2
      exact h2.trans (Cert.KernelIdeal.Hand.scales_agree m g c hx).symm

theorem claim : Cert.Claim := ⟨Cert.Kernel.Gen.facts, Cert.KernelIdeal.Gen.facts, Cert.ReferenceIdeal.Gen.facts, Cert.Pre_finite.Gen.facts,
  fun m ρ _ => Cert.Kernel.Gen.frame m ρ, fun m ρ _ => Cert.KernelIdeal.Gen.frame m ρ, fun m ρ _ => Cert.KernelIdeal.Gen.frame m ρ,
  fun m ρ _ => Cert.ReferenceIdeal.Gen.frame m ρ, fun m ρ _ => Cert.ReferenceIdeal.Gen.frame m ρ, trivial, algebraic⟩

end Cert.Proof

end
